-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x8192 : Shape := ⟨3, ![32, 1, 8192]⟩
abbrev S1024x22528 : Shape := ⟨2, ![1024, 22528]⟩
abbrev S64x22528 : Shape := ⟨2, ![64, 22528]⟩
abbrev S64x2816 : Shape := ⟨2, ![64, 2816]⟩
abbrev S32x8x1024 : Shape := ⟨3, ![32, 8, 1024]⟩
abbrev S32x1024x8 : Shape := ⟨3, ![32, 1024, 8]⟩
abbrev S32x8192 : Shape := ⟨2, ![32, 8192]⟩
abbrev S32x22528 : Shape := ⟨2, ![32, 22528]⟩
abbrev S1024x1024 : Shape := ⟨2, ![1024, 1024]⟩
abbrev S64x1024 : Shape := ⟨2, ![64, 1024]⟩
abbrev S64x128 : Shape := ⟨2, ![64, 128]⟩
abbrev S32x1024 : Shape := ⟨2, ![32, 1024]⟩
abbrev S128x1024 : Shape := ⟨2, ![128, 1024]⟩
abbrev S8x64x128 : Shape := ⟨3, ![8, 64, 128]⟩
abbrev S64x128x1 : Shape := ⟨3, ![64, 128, 1]⟩
abbrev S1x64x128 : Shape := ⟨3, ![1, 64, 128]⟩
abbrev S1x8x128 : Shape := ⟨3, ![1, 8, 128]⟩
abbrev S8x128 : Shape := ⟨2, ![8, 128]⟩
abbrev S16x128 : Shape := ⟨2, ![16, 128]⟩
abbrev S32x256 : Shape := ⟨2, ![32, 256]⟩
abbrev S32x8x256 : Shape := ⟨3, ![32, 8, 256]⟩
abbrev S32x1x256 : Shape := ⟨3, ![32, 1, 256]⟩
abbrev S256x256 : Shape := ⟨2, ![256, 256]⟩
abbrev S16x16x256 : Shape := ⟨3, ![16, 16, 256]⟩
abbrev S16x256 : Shape := ⟨2, ![16, 256]⟩
abbrev S1x16x256 : Shape := ⟨3, ![1, 16, 256]⟩

abbrev nBuf : Space → Nat
  | .hbm => 8
  | .vmem => 13
  | .smem => 0
  | _ => 0

abbrev bufTy : (tb : Table) → Fin (tcTables nBuf tb) → BufTy
  | .hbm, ⟨0, _⟩ => ⟨S32x1x8192, .bf16⟩
  | .hbm, ⟨1, _⟩ => ⟨S1024x22528, .i32⟩
  | .hbm, ⟨2, _⟩ => ⟨S64x22528, .bf16⟩
  | .hbm, ⟨3, _⟩ => ⟨S64x2816, .i32⟩
  | .hbm, ⟨4, _⟩ => ⟨S32x8x1024, .bf16⟩
  | .hbm, ⟨5, _⟩ => ⟨S32x1024x8, .bf16⟩
  | .hbm, ⟨6, _⟩ => ⟨S32x8192, .bf16⟩
  | .hbm, ⟨7, _⟩ => ⟨S32x22528, .bf16⟩
  | .local _ .vmem, ⟨0, _⟩ => ⟨S32x8192, .bf16⟩
  | .local _ .vmem, ⟨1, _⟩ => ⟨S1024x1024, .i32⟩
  | .local _ .vmem, ⟨2, _⟩ => ⟨S1024x1024, .i32⟩
  | .local _ .vmem, ⟨3, _⟩ => ⟨S64x1024, .bf16⟩
  | .local _ .vmem, ⟨4, _⟩ => ⟨S64x1024, .bf16⟩
  | .local _ .vmem, ⟨5, _⟩ => ⟨S64x128, .i32⟩
  | .local _ .vmem, ⟨6, _⟩ => ⟨S64x128, .i32⟩
  | .local _ .vmem, ⟨7, _⟩ => ⟨S32x1024, .bf16⟩
  | .local _ .vmem, ⟨8, _⟩ => ⟨S32x1024, .bf16⟩
  | .local _ .vmem, ⟨9, _⟩ => ⟨S128x1024, .bf16⟩
  | .local _ .vmem, ⟨10, _⟩ => ⟨S128x1024, .bf16⟩
  | .local _ .vmem, ⟨11, _⟩ => ⟨S8x64x128, .f32⟩
  | .local _ .vmem, ⟨12, _⟩ => ⟨S8x64x128, .f32⟩
  | _, _ => ⟨S32x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x1x8192 : Shape := ⟨3, ![32, 1, 8192]⟩
abbrev S1024x22528 : Shape := ⟨2, ![1024, 22528]⟩
abbrev S64x22528 : Shape := ⟨2, ![64, 22528]⟩
abbrev S64x2816 : Shape := ⟨2, ![64, 2816]⟩
abbrev S8 : Shape := ⟨1, ![8]⟩
abbrev S_ : Shape := ⟨0, ![]⟩
abbrev S64x2816x1 : Shape := ⟨3, ![64, 2816, 1]⟩
abbrev S1x1x8 : Shape := ⟨3, ![1, 1, 8]⟩
abbrev S64x2816x8 : Shape := ⟨3, ![64, 2816, 8]⟩
abbrev S32x8192 : Shape := ⟨2, ![32, 8192]⟩
abbrev S8x128x22528 : Shape := ⟨3, ![8, 128, 22528]⟩
abbrev S8x22528 : Shape := ⟨2, ![8, 22528]⟩
abbrev S8x1x22528 : Shape := ⟨3, ![8, 1, 22528]⟩
abbrev S32x1024 : Shape := ⟨2, ![32, 1024]⟩
abbrev S32x22528 : Shape := ⟨2, ![32, 22528]⟩

abbrev nBuf : Space → Nat
  | .hbm => 179
  | .vmem => 0
  | .smem => 0
  | _ => 0

abbrev hbmTy0_0 (i : Nat) : BufTy := match i % 128 with
  | 0 => ⟨S32x1x8192, .bf16⟩
  | 1 => ⟨S1024x22528, .i32⟩
  | 2 => ⟨S64x22528, .bf16⟩
  | 3 => ⟨S64x2816, .i32⟩
  | 4 => ⟨S8, .i32⟩
  | 5 => ⟨S_, .i32⟩
  | 6 => ⟨S8, .i32⟩
  | 7 => ⟨S8, .i32⟩
  | 8 => ⟨S64x2816x1, .i32⟩
  | 9 => ⟨S1x1x8, .i32⟩
  | 10 => ⟨S64x2816x8, .i32⟩
  | 11 => ⟨S64x2816x8, .i32⟩
  | 12 => ⟨S64x2816x8, .i32⟩
  | 13 => ⟨S_, .i32⟩
  | 14 => ⟨S64x2816x8, .i32⟩
  | 15 => ⟨S64x2816x8, .i32⟩
  | 16 => ⟨S64x22528, .i32⟩
  | 17 => ⟨S64x22528, .bf16⟩
  | 18 => ⟨S32x8192, .bf16⟩
  | 19 => ⟨S_, .i32⟩
  | 20 => ⟨S1024x22528, .i32⟩
  | 21 => ⟨S1024x22528, .i32⟩
  | 22 => ⟨S_, .i32⟩
  | 23 => ⟨S1024x22528, .i32⟩
  | 24 => ⟨S1024x22528, .i32⟩
  | 25 => ⟨S1024x22528, .bf16⟩
  | 26 => ⟨S8x128x22528, .bf16⟩
  | 27 => ⟨S8x22528, .bf16⟩
  | 28 => ⟨S8x1x22528, .bf16⟩
  | 29 => ⟨S8x22528, .bf16⟩
  | 30 => ⟨S8x1x22528, .bf16⟩
  | 31 => ⟨S8x128x22528, .bf16⟩
  | 32 => ⟨S8x128x22528, .bf16⟩
  | 33 => ⟨S8x128x22528, .bf16⟩
  | 34 => ⟨S8x128x22528, .bf16⟩
  | 35 => ⟨S1024x22528, .bf16⟩
  | 36 => ⟨S32x1024, .bf16⟩
  | 37 => ⟨S32x22528, .f32⟩
  | 38 => ⟨S_, .i32⟩
  | 39 => ⟨S1024x22528, .i32⟩
  | 40 => ⟨S1024x22528, .i32⟩
  | 41 => ⟨S_, .i32⟩
  | 42 => ⟨S1024x22528, .i32⟩
  | 43 => ⟨S1024x22528, .i32⟩
  | 44 => ⟨S1024x22528, .bf16⟩
  | 45 => ⟨S8x128x22528, .bf16⟩
  | 46 => ⟨S8x22528, .bf16⟩
  | 47 => ⟨S8x1x22528, .bf16⟩
  | 48 => ⟨S8x22528, .bf16⟩
  | 49 => ⟨S8x1x22528, .bf16⟩
  | 50 => ⟨S8x128x22528, .bf16⟩
  | 51 => ⟨S8x128x22528, .bf16⟩
  | 52 => ⟨S8x128x22528, .bf16⟩
  | 53 => ⟨S8x128x22528, .bf16⟩
  | 54 => ⟨S1024x22528, .bf16⟩
  | 55 => ⟨S32x1024, .bf16⟩
  | 56 => ⟨S32x22528, .f32⟩
  | 57 => ⟨S32x22528, .f32⟩
  | 58 => ⟨S_, .i32⟩
  | 59 => ⟨S1024x22528, .i32⟩
  | 60 => ⟨S1024x22528, .i32⟩
  | 61 => ⟨S_, .i32⟩
  | 62 => ⟨S1024x22528, .i32⟩
  | 63 => ⟨S1024x22528, .i32⟩
  | 64 => ⟨S1024x22528, .bf16⟩
  | 65 => ⟨S8x128x22528, .bf16⟩
  | 66 => ⟨S8x22528, .bf16⟩
  | 67 => ⟨S8x1x22528, .bf16⟩
  | 68 => ⟨S8x22528, .bf16⟩
  | 69 => ⟨S8x1x22528, .bf16⟩
  | 70 => ⟨S8x128x22528, .bf16⟩
  | 71 => ⟨S8x128x22528, .bf16⟩
  | 72 => ⟨S8x128x22528, .bf16⟩
  | 73 => ⟨S8x128x22528, .bf16⟩
  | 74 => ⟨S1024x22528, .bf16⟩
  | 75 => ⟨S32x1024, .bf16⟩
  | 76 => ⟨S32x22528, .f32⟩
  | 77 => ⟨S32x22528, .f32⟩
  | 78 => ⟨S_, .i32⟩
  | 79 => ⟨S1024x22528, .i32⟩
  | 80 => ⟨S1024x22528, .i32⟩
  | 81 => ⟨S_, .i32⟩
  | 82 => ⟨S1024x22528, .i32⟩
  | 83 => ⟨S1024x22528, .i32⟩
  | 84 => ⟨S1024x22528, .bf16⟩
  | 85 => ⟨S8x128x22528, .bf16⟩
  | 86 => ⟨S8x22528, .bf16⟩
  | 87 => ⟨S8x1x22528, .bf16⟩
  | 88 => ⟨S8x22528, .bf16⟩
  | 89 => ⟨S8x1x22528, .bf16⟩
  | 90 => ⟨S8x128x22528, .bf16⟩
  | 91 => ⟨S8x128x22528, .bf16⟩
  | 92 => ⟨S8x128x22528, .bf16⟩
  | 93 => ⟨S8x128x22528, .bf16⟩
  | 94 => ⟨S1024x22528, .bf16⟩
  | 95 => ⟨S32x1024, .bf16⟩
  | 96 => ⟨S32x22528, .f32⟩
  | 97 => ⟨S32x22528, .f32⟩
  | 98 => ⟨S_, .i32⟩
  | 99 => ⟨S1024x22528, .i32⟩
  | 100 => ⟨S1024x22528, .i32⟩
  | 101 => ⟨S_, .i32⟩
  | 102 => ⟨S1024x22528, .i32⟩
  | 103 => ⟨S1024x22528, .i32⟩
  | 104 => ⟨S1024x22528, .bf16⟩
  | 105 => ⟨S8x128x22528, .bf16⟩
  | 106 => ⟨S8x22528, .bf16⟩
  | 107 => ⟨S8x1x22528, .bf16⟩
  | 108 => ⟨S8x22528, .bf16⟩
  | 109 => ⟨S8x1x22528, .bf16⟩
  | 110 => ⟨S8x128x22528, .bf16⟩
  | 111 => ⟨S8x128x22528, .bf16⟩
  | 112 => ⟨S8x128x22528, .bf16⟩
  | 113 => ⟨S8x128x22528, .bf16⟩
  | 114 => ⟨S1024x22528, .bf16⟩
  | 115 => ⟨S32x1024, .bf16⟩
  | 116 => ⟨S32x22528, .f32⟩
  | 117 => ⟨S32x22528, .f32⟩
  | 118 => ⟨S_, .i32⟩
  | 119 => ⟨S1024x22528, .i32⟩
  | 120 => ⟨S1024x22528, .i32⟩
  | 121 => ⟨S_, .i32⟩
  | 122 => ⟨S1024x22528, .i32⟩
  | 123 => ⟨S1024x22528, .i32⟩
  | 124 => ⟨S1024x22528, .bf16⟩
  | 125 => ⟨S8x128x22528, .bf16⟩
  | 126 => ⟨S8x22528, .bf16⟩
  | 127 => ⟨S8x1x22528, .bf16⟩
  | _ => ⟨S32x1x8192, .bf16⟩

abbrev hbmTy0_1 (i : Nat) : BufTy := match i % 128 with
  | 0 => ⟨S8x22528, .bf16⟩
  | 1 => ⟨S8x1x22528, .bf16⟩
  | 2 => ⟨S8x128x22528, .bf16⟩
  | 3 => ⟨S8x128x22528, .bf16⟩
  | 4 => ⟨S8x128x22528, .bf16⟩
  | 5 => ⟨S8x128x22528, .bf16⟩
  | 6 => ⟨S1024x22528, .bf16⟩
  | 7 => ⟨S32x1024, .bf16⟩
  | 8 => ⟨S32x22528, .f32⟩
  | 9 => ⟨S32x22528, .f32⟩
  | 10 => ⟨S_, .i32⟩
  | 11 => ⟨S1024x22528, .i32⟩
  | 12 => ⟨S1024x22528, .i32⟩
  | 13 => ⟨S_, .i32⟩
  | 14 => ⟨S1024x22528, .i32⟩
  | 15 => ⟨S1024x22528, .i32⟩
  | 16 => ⟨S1024x22528, .bf16⟩
  | 17 => ⟨S8x128x22528, .bf16⟩
  | 18 => ⟨S8x22528, .bf16⟩
  | 19 => ⟨S8x1x22528, .bf16⟩
  | 20 => ⟨S8x22528, .bf16⟩
  | 21 => ⟨S8x1x22528, .bf16⟩
  | 22 => ⟨S8x128x22528, .bf16⟩
  | 23 => ⟨S8x128x22528, .bf16⟩
  | 24 => ⟨S8x128x22528, .bf16⟩
  | 25 => ⟨S8x128x22528, .bf16⟩
  | 26 => ⟨S1024x22528, .bf16⟩
  | 27 => ⟨S32x1024, .bf16⟩
  | 28 => ⟨S32x22528, .f32⟩
  | 29 => ⟨S32x22528, .f32⟩
  | 30 => ⟨S_, .i32⟩
  | 31 => ⟨S1024x22528, .i32⟩
  | 32 => ⟨S1024x22528, .i32⟩
  | 33 => ⟨S_, .i32⟩
  | 34 => ⟨S1024x22528, .i32⟩
  | 35 => ⟨S1024x22528, .i32⟩
  | 36 => ⟨S1024x22528, .bf16⟩
  | 37 => ⟨S8x128x22528, .bf16⟩
  | 38 => ⟨S8x22528, .bf16⟩
  | 39 => ⟨S8x1x22528, .bf16⟩
  | 40 => ⟨S8x22528, .bf16⟩
  | 41 => ⟨S8x1x22528, .bf16⟩
  | 42 => ⟨S8x128x22528, .bf16⟩
  | 43 => ⟨S8x128x22528, .bf16⟩
  | 44 => ⟨S8x128x22528, .bf16⟩
  | 45 => ⟨S8x128x22528, .bf16⟩
  | 46 => ⟨S1024x22528, .bf16⟩
  | 47 => ⟨S32x1024, .bf16⟩
  | 48 => ⟨S32x22528, .f32⟩
  | 49 => ⟨S32x22528, .f32⟩
  | 50 => ⟨S32x22528, .bf16⟩
  | _ => ⟨S32x1x8192, .bf16⟩

abbrev hbmTy (i : Nat) : BufTy := match i / 128 with
  | 0 => hbmTy0_0 i
  | 1 => hbmTy0_1 i
  | _ => ⟨S32x1x8192, .bf16⟩

abbrev bufTy : (tb : Table) → Fin (tcTables nBuf tb) → BufTy
  | .hbm, ⟨i, _⟩ => hbmTy i
  | _, _ => ⟨S32x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_5 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_7 : Ref sig .tc := ⟨.hbm, 78, rfl⟩
abbrev main_v66 : Ref sig .tc := ⟨.hbm, 79, rfl⟩
abbrev main_v67 : Ref sig .tc := ⟨.hbm, 80, rfl⟩
abbrev main_c_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_c_9 : Ref sig .tc := ⟨.hbm, 98, rfl⟩
abbrev main_v84 : Ref sig .tc := ⟨.hbm, 99, rfl⟩
abbrev main_v85 : Ref sig .tc := ⟨.hbm, 100, rfl⟩
abbrev main_c_10 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_c_11 : Ref sig .tc := ⟨.hbm, 118, rfl⟩
abbrev main_v102 : Ref sig .tc := ⟨.hbm, 119, rfl⟩
abbrev main_v103 : Ref sig .tc := ⟨.hbm, 120, rfl⟩
abbrev main_c_12 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_c_13 : Ref sig .tc := ⟨.hbm, 138, rfl⟩
abbrev main_v120 : Ref sig .tc := ⟨.hbm, 139, rfl⟩
abbrev main_v121 : Ref sig .tc := ⟨.hbm, 140, rfl⟩
abbrev main_c_14 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_c_15 : Ref sig .tc := ⟨.hbm, 158, rfl⟩
abbrev main_v138 : Ref sig .tc := ⟨.hbm, 159, rfl⟩
abbrev main_v139 : Ref sig .tc := ⟨.hbm, 160, rfl⟩
abbrev main_c_16 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩

abbrev nD : Nat := 1
abbrev τ : Topo := Topo.v7x

variable {F : FTy → Type} [FloatOps F]
-- ==== Proof.Block.lean ====
/- WHAT ONE GRID POINT STORES, in a uniform vocabulary: the four 32×256 column tiles of the block, each the rounded
   sum of 32 products of an activation slice and a dequantized 256×256 weight tile. -/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- The 4-bit codes of 32 rows of words: word row k gives rows 8k … 8k+7, lowest four bits first; viewed as 16 groups
    of 16 rows. -/
def codes (w : Vec F S32x256 .i32) : FVec F S16x16x256 .bf16 :=
  shapeCast S16x16x256 (sitofp .bf16 (shapeCast S256x256
    (andi (shrui (broadcastTo S32x8x256 (shapeCast S32x1x256 (shapeCast S32x1x256 w shapeCasts_S32x256_S32x1x256)
        shapeCasts_S32x1x256_S32x1x256) broadcasts_S32x1x256_S32x8x256)
      (muli (broadcast S32x8x256 4#32) (iota .tc S32x8x256 32 [1] iota_S32x8x256_d1_w32)))
      (broadcast S32x8x256 15#32)) shapeCasts_S32x8x256_S256x256)) shapeCasts_S256x256_S16x16x256

/-- Sixteen pattern rows repeated over the 16 groups of a tile. -/
def spread (v : Vec F S16x256 .bf16) : FVec F S16x16x256 .bf16 :=
  broadcastTo S16x16x256 (shapeCast S1x16x256 v shapeCasts_S16x256_S1x16x256) broadcasts_S1x16x256_S16x16x256

/-- One dequantized 256×256 weight tile: (code − zero point) · scale. -/
def tile (w : Vec F S32x256 .i32) (z s : Vec F S16x256 .bf16) : FVec F S256x256 .bf16 :=
  shapeCast S256x256 (mulf (subf (codes w) (spread z)) (spread s)) shapeCasts_S16x16x256_S256x256

/-- One product: an activation slice times one dequantized tile. -/
def part (x : Vec F S32x256 .bf16) (w : Vec F S32x256 .i32) (z s : Vec F S16x256 .bf16) : FVec F S32x256 .f32 :=
  matmul dot_S32x256_S256x256_S32x256_1_0_0_1_n_n none (shapeCast S32x256 x shapeCasts_S32x256_S32x256)
    (tile w z s) (constant S32x256 .f32 0x00000000#32)

/-- The running sum of the products 0 … k. -/
def acc (P : Fin 32 → FVec F S32x256 .f32) : (k : ℕ) → k < 32 → FVec F S32x256 .f32
  | 0, h => P ⟨0, h⟩
  | k + 1, h => addf (acc P k (Nat.lt_of_succ_lt h)) (P ⟨k + 1, h⟩)

/-! ## The rectangles the body reads and stores -/

/-- Activation columns 256t … 256t+255. -/
def rectX (t : Fin 32) : Rect S32x8192 :=
  Rect.unit ![0, 256 * t.val] S32x256.size (by intro a; have := t.isLt; fin_cases a <;> simp <;> omega)

/-- Word rows 32t … 32t+31, columns 256n … 256n+255. -/
def rectW (n : Fin 4) (t : Fin 32) : Rect S1024x1024 :=
  Rect.unit ![32 * t.val, 256 * n.val] S32x256.size
    (by intro a; have := t.isLt; have := n.isLt; fin_cases a <;> simp <;> omega)

/-- The sixteen pattern rows of tile t (four tiles share them), columns 256n … 256n+255. -/
def rectZ (n : Fin 4) (t : Fin 32) : Rect S128x1024 :=
  Rect.unit ![16 * (t.val / 4), 256 * n.val] S16x256.size
    (by intro a; have := t.isLt; have := n.isLt; fin_cases a <;> simp <;> omega)

/-- Output columns 256n … 256n+255. -/
def rectY (n : Fin 4) : Rect S32x1024 :=
  Rect.unit ![0, 256 * n.val] S32x256.size (by intro a; have := n.isLt; fin_cases a <;> simp <;> omega)

/-! ## The body's four stores -/

section Stores

variable (c : Dev nD) (arg1 : Memref sig .tc .vmem S32x8192 .bf16) (harg1 : arg1.IsWhole)
  (arg2 : Memref sig .tc .vmem S1024x1024 .i32) (harg2 : arg2.IsWhole)
  (arg3 : Memref sig .tc .vmem S64x1024 .bf16) (harg3 : arg3.IsWhole)
  (arg4 : Memref sig .tc .vmem S64x128 .i32) (harg4 : arg4.IsWhole)
  (arg6 arg7 : Memref sig .tc .vmem S128x1024 .bf16) (arg8 arg9 : Memref sig .tc .vmem S8x64x128 .f32)
  (x0 : Vec F S32x8192 .bf16) (x1 : Vec F S1024x1024 .i32) (x2 : Vec F S64x1024 .bf16) (x3 : Vec F S64x128 .i32)

/-- Product t of column tile n, over what the body reads. -/
def product (n : Fin 4) (t : Fin 32) : FVec F S32x256 .f32 :=
  part (View.readAt (Elt F) arg1.view (rectX t).toLoadRect (harg1.unread x0))
    (View.readAt (Elt F) arg2.view (rectW n t).toLoadRect (harg2.unread x1))
    (arg7.view.readCov (kernelRun0_A.sl.HS1_64 c arg4 harg4 arg9 x3) (rectZ n t).toLoadRect)
    (arg6.view.readCov (kernelRun0_A.sl.HS0_64 c arg3 harg3 arg8 x2) (rectZ n t).toLoadRect)

/-- The store of column tile n. -/
def store (n : Fin 4) : View.Piece (Elt F) S32x1024 .bf16 :=
  ⟨rectY n, truncf (s := S32x256) .bf16
    (acc (product c arg1 harg1 arg2 harg2 arg3 harg3 arg4 harg4 arg6 arg7 arg8 arg9 x0 x1 x2 x3 n) 31 (by decide))
    bitsLt_bf16_f32⟩

theorem stores (i : grid0.Coords) (arg5 : Memref sig .tc .vmem S32x1024 .bf16) (harg5 : arg5.IsWhole)
    (harg6 : arg6.IsWhole) (harg7 : arg7.IsWhole) (harg8 : arg8.IsWhole) (harg9 : arg9.IsWhole) :
    (kernelRun0_A c i arg1 harg1 arg2 harg2 arg3 harg3 arg4 harg4 arg5 harg5 arg6 harg6 arg7 harg7 arg8 harg8
      arg9 harg9 x0 x1 x2 x3).1
    = [3, 2, 1, 0].map (store c arg1 harg1 arg2 harg2 arg3 harg3 arg4 harg4 arg6 arg7 arg8 arg9 x0 x1 x2 x3) := by
  rfl

end Stores

end Cert.KernelIdeal.Block

end
-- ==== Proof.Patterns.lean ====
/- WHAT THE SCRATCH ARRAYS HOLD: the zero points and scales of one block, unpacked and laid out as the 16-row patterns
   the weight tiles are dequantized with. -/
module

public import proofs.«01_k».proof.Proof.Gen.KernelIdeal.Value
public import Idealize.ShloMosaic.Lib.Pointwise

@[expose] public section

set_option maxRecDepth 16384

noncomputable section

namespace Cert.KernelIdeal.Patterns

open Cert.KernelIdeal Cert.KernelIdeal.Gen Idealize.ShloMosaic Idealize.ShloMosaic.TcCoe Idealize.SL.Sem

section Vocabulary

variable {F : FTy → Type} [FloatOps F]

/-- The lane number at every place of a 64×128 plane. -/
def lane : IVec S64x128 32 := iota .tc S64x128 32 [1] iota_S64x128_d1_w32

/-- The lane number divided by 8, rounded down, as printed: the truncated quotient, corrected where the signs differ. -/
def laneDiv : IVec S64x128 32 :=
  let sgn : BitVec 32 := Scalar.subi (Scalar.extui (Scalar.cmpi .sgt 8#32 0#32)) (Scalar.extui (Scalar.cmpi .slt 8#32 0#32))
  let quo : IVec S64x128 32 := divsi lane (broadcast S64x128 8#32)
  select (andi
      (cmpi .ne (subi (extui 32 (cmpi .sgt lane (broadcast S64x128 0#32)) natLt_1_32)
        (extui 32 (cmpi .slt lane (broadcast S64x128 0#32)) natLt_1_32)) (broadcast S64x128 sgn))
      (cmpi .ne (remsi lane (broadcast S64x128 8#32)) (broadcast S64x128 0#32)))
    (subi quo (broadcast S64x128 1#32)) quo

/-- The column of words that lane reads in chunk c, as printed. -/
def wordCol (c : Fin 8) : IVec S64x128 32 :=
  let col : IVec S64x128 32 := addi (broadcast S64x128 (BitVec.ofNat 32 (16 * c.val))) laneDiv
  shapeCast S64x128 (shapeCast S64x128x1
    (select (cmpi .slt col (broadcast S64x128 0#32)) (addi col (broadcast S64x128 128#32)) col)
    shapeCasts_S64x128_S64x128x1) shapeCasts_S64x128x1_S64x128

/-- Four times the lane number modulo 8, as printed: the remainder, corrected where it is negative. -/
def laneShift : IVec S64x128 32 :=
  let d : BitVec 32 := Scalar.select (Scalar.cmpi .eq 8#32 0#32) 1#32 8#32
  let r : IVec S64x128 32 := remsi lane (broadcast S64x128 d)
  muli (broadcast S64x128 4#32)
    (select (andi (xori (cmpi .slt r (broadcast S64x128 0#32))
        (broadcastTo S64x128 (broadcast S64x128 (Scalar.cmpi .slt d 0#32)) broadcasts_S64x128_S64x128))
        (cmpi .ne r (broadcast S64x128 0#32)))
      (addi r (broadcast S64x128 d)) r)

/-- The zero points of lane chunk c, unpacked. -/
def zeroVals (c : Fin 8) (q : Vec F S64x128 .i32) : FVec F S1x64x128 .f32 :=
  shapeCast S1x64x128 (sitofp .f32 (andi (shrui (dynamicGather 1 q (wordCol c)) laneShift) (broadcast S64x128 15#32)))
    shapeCasts_S64x128_S1x64x128

/-- The scales of a lane chunk, widened. -/
def scaleVals (s : Vec F S64x128 .bf16) : FVec F S1x64x128 .f32 :=
  shapeCast S1x64x128 (extf .f32 s bitsLt_bf16_f32) shapeCasts_S64x128_S1x64x128

/-- Eight rows, written twice one under the other, rounded. -/
def twice (v : Vec F S1x8x128 .f32) : FVec F S16x128 .bf16 :=
  shapeCast S16x128 (truncf .bf16 (concatenate S16x128 0
    [⟨S8x128, shapeCast S8x128 v shapeCasts_S1x8x128_S8x128⟩, ⟨S8x128, shapeCast S8x128 v shapeCasts_S1x8x128_S8x128⟩]
    concatenates_S8x128_S8x128_S16x128_d0) bitsLt_bf16_f32) shapeCasts_S16x128_S16x128

/-- Plane c of a staging array. -/
def plane (c : Fin 8) : Rect S8x64x128 :=
  Rect.unit ![c.val, 0, 0] S1x64x128.size (by intro a; have := c.isLt; fin_cases a <;> simp)

/-- Rows g, g+8, …, g+56 of plane c. -/
def comb (c g : Fin 8) : LoadRect S8x64x128 where
  off := ![c.val, g.val, 0]
  size := S1x8x128.size
  stride := ![1, 8, 1]
  inb := by intro a; have := c.isLt; have := g.isLt; fin_cases a <;> simp <;> omega

/-- Pattern rows 16g … 16g+15, columns 128c … 128c+127. -/
def patch (c g : Fin 8) : Rect S128x1024 :=
  Rect.unit ![16 * g.val, 128 * c.val] S16x128.size
    (by intro a; have := c.isLt; have := g.isLt; fin_cases a <;> simp <;> omega)

/-- Scale columns 128c … 128c+127. -/
def scaleCols (c : Fin 8) : Rect S64x1024 :=
  Rect.unit ![0, 128 * c.val] S64x128.size (by intro a; have := c.isLt; fin_cases a <;> simp <;> omega)

/-- All the words of a zero-point block. -/
def allWords : Rect S64x128 :=
  Rect.unit ![0, 0] S64x128.size (by intro a; fin_cases a <;> simp)

/-- The numbers k, k−1, …, 0: the planes stored once plane k is, the last first. -/
def downFrom : (k : ℕ) → k < 8 → List (Fin 8)
  | 0, h => [⟨0, h⟩]
  | k + 1, h => ⟨k + 1, h⟩ :: downFrom k (Nat.lt_of_succ_lt h)

theorem mem_downFrom (c : Fin 8) : c ∈ downFrom c.val c.isLt := by
  obtain ⟨k, h⟩ := c
  cases k <;> simp [downFrom]

variable (c : Dev nD) (arg3 : Memref sig .tc .vmem S64x1024 .bf16) (harg3 : arg3.IsWhole)
  (arg4 : Memref sig .tc .vmem S64x128 .i32) (harg4 : arg4.IsWhole)
  (arg8 arg9 : Memref sig .tc .vmem S8x64x128 .f32)
  (x2 : Vec F S64x1024 .bf16) (x3 : Vec F S64x128 .i32)

/-- The store of one plane of zero points. -/
def zeroPlane (k : Fin 8) : View.Piece (Elt F) S8x64x128 .f32 :=
  ⟨plane k, zeroVals k (View.readAt (Elt F) arg4.view allWords.toLoadRect (harg4.unread x3))⟩

/-- The store of one plane of scales. -/
def scalePlane (k : Fin 8) : View.Piece (Elt F) S8x64x128 .f32 :=
  ⟨plane k, scaleVals (View.readAt (Elt F) arg3.view (scaleCols k).toLoadRect (harg3.unread x2))⟩

/-- The store of one patch of the zero-point pattern. -/
def zeroPatch (k g : Fin 8) : View.Piece (Elt F) S128x1024 .bf16 :=
  ⟨patch k g, twice (arg9.view.readCov ((downFrom k.val k.isLt).map (zeroPlane arg4 harg4 x3)) (comb k g))⟩

/-- The store of one patch of the scale pattern. -/
def scalePatch (k g : Fin 8) : View.Piece (Elt F) S128x1024 .bf16 :=
  ⟨patch k g, twice (arg8.view.readCov ((downFrom k.val k.isLt).map (scalePlane arg3 harg3 x2)) (comb k g))⟩

/-- The body's stores into the zero-point pattern are these patches. -/
theorem zeroPatches : kernelRun0_A.sl.HS1_64 c arg4 harg4 arg9 x3
    = (downFrom 7 (by decide)).flatMap fun k => (downFrom 7 (by decide)).map (zeroPatch arg4 harg4 arg9 x3 k) := rfl

/-- The body's stores into the scale pattern are these patches. -/
theorem scalePatches : kernelRun0_A.sl.HS0_64 c arg3 harg3 arg8 x2
    = (downFrom 7 (by decide)).flatMap fun k => (downFrom 7 (by decide)).map (scalePatch arg3 harg3 arg8 x2 k) := rfl

end Vocabulary

end Cert.KernelIdeal.Patterns

end
-- ==== Proof.Contents.lean ====
/- The scratch arrays' contents, element by element. -/
module

public import proofs.«01_k».proof.Proof.Patterns
public import Idealize.ShloMosaic.Lib.Pipeline.Value

@[expose] public section

set_option maxRecDepth 16384

noncomputable section

namespace Cert.KernelIdeal.Patterns

open Cert.KernelIdeal Cert.KernelIdeal.Gen Idealize.ShloMosaic Idealize.ShloMosaic.TcCoe Idealize.SL.Sem

/-- The k-th 4-bit field of a word. -/
def field (w : BitVec 32) (k : ℕ) : BitVec 32 :=
  IntOp.andi (IntOp.shrui .vector w (BitVec.ofNat 32 (4 * k))) 15#32

/-- The k-th 4-bit field of a word, as a number. -/
def num (w : BitVec 32) (k : ℕ) : EReal := FloatOps.sitofp (F := Ideal) .f32 (field w k)

/-- The lane number divided by 8, at a place. -/
theorem laneDiv_apply (g : Fin 64) (l : Fin 128) : laneDiv (ix2 g l) = BitVec.ofNat 32 (l.val / 8) := by
  have h : ∀ l : Fin 128, laneDiv (ix2 0 l) = BitVec.ofNat 32 (l.val / 8) := by decide +kernel
  rw [← h l]; rfl

/-- The shift at a place. -/
theorem laneShift_apply (g : Fin 64) (l : Fin 128) : laneShift (ix2 g l) = BitVec.ofNat 32 (4 * (l.val % 8)) := by
  have h : ∀ l : Fin 128, laneShift (ix2 0 l) = BitVec.ofNat 32 (4 * (l.val % 8)) := by decide +kernel
  rw [← h l]; rfl

/-- The word column at a place. -/
theorem wordCol_apply (c : Fin 8) (g : Fin 64) (l : Fin 128) :
    wordCol c (ix2 g l) = BitVec.ofNat 32 (16 * c.val + l.val / 8) := by
  have e : wordCol c (ix2 g l) = Scalar.select (IntOp.cmpi .slt (BitVec.ofNat 32 (16 * c.val) + laneDiv (ix2 g l)) 0#32)
      (BitVec.ofNat 32 (16 * c.val) + laneDiv (ix2 g l) + 128#32) (BitVec.ofNat 32 (16 * c.val) + laneDiv (ix2 g l)) := by
    pointwise [wordCol]
    rfl
  rw [e, laneDiv_apply]
  clear e
  revert c l; decide +kernel

/-- Lane l of chunk c reads field l mod 8 of word 16c + l/8 of its row. -/
theorem zeroVals_apply (c : Fin 8) (q : Vec Ideal S64x128 .i32) (g : Fin 64) (l : Fin 128) :
    zeroVals c q (ix3 0 g l) = num (q (ix2 g ⟨16 * c.val + l.val / 8, by omega⟩)) (l.val % 8) := by
  pointwise [zeroVals]
  rw [laneShift_apply]
  have e : (⟨(wordCol c (ix2 g l)).toNat % 128, Nat.mod_lt _ (by decide)⟩ : Fin 128)
      = ⟨16 * c.val + l.val / 8, by omega⟩ := Fin.ext (by
    show (wordCol c (ix2 g l)).toNat % 128 = 16 * c.val + l.val / 8
    rw [wordCol_apply, BitVec.toNat_ofNat]; omega)
  rw [e]; rfl

theorem scaleVals_apply (s : Vec Ideal S64x128 .bf16) (g : Fin 64) (l : Fin 128) :
    scaleVals s (ix3 0 g l) = s (ix2 g l) := by
  pointwise [scaleVals]

/-- Row u of the doubled rows is row u mod 8. -/
theorem twice_apply (v : Vec Ideal S1x8x128 .f32) (u : Fin 16) (l : Fin 128) :
    twice v (ix2 u l) = v (ix3 0 ⟨u.val % 8, Nat.mod_lt _ (by decide)⟩ l) := by
  pointwise [twice]
  have := u.isLt
  split <;> · congr 2; apply Fin.ext; show _ = u.val % 8; simp only []; omega

/-! ## The two staging arrays -/

/-- Zero points: plane c, row g, lane l. -/
def zeros (q : Vec Ideal S64x128 .i32) : S8x64x128.Idx → EReal := fun i =>
  num (q (ix2 (i 1) ⟨16 * (i 0).val + (i 2).val / 8, by have := (i 0).isLt; have := (i 2).isLt; simp at *; omega⟩)) ((i 2).val % 8)

/-- Scales: plane c, row g, lane l. -/
def scales (s : Vec Ideal S64x1024 .bf16) : S8x64x128.Idx → EReal := fun i =>
  s (ix2 (i 1) ⟨128 * (i 0).val + (i 2).val, by have := (i 0).isLt; have := (i 2).isLt; simp at *; omega⟩)

theorem plane_emb (k : Fin 8) (g : Fin 64) (l : Fin 128) :
    (plane k).emb (ix3 (n0 := 1) 0 g l) = ix3 k g l := by
  funext a; apply Fin.ext
  match a with
  | ⟨0, _⟩ => exact Nat.add_zero _
  | ⟨1, _⟩ => show 0 + 1 * g.val = g.val; omega
  | ⟨2, _⟩ => show 0 + 1 * l.val = l.val; omega

theorem comb_idx (k g : Fin 8) (r : Fin 8) (l : Fin 128) :
    (comb k g).idx (ix3 (n0 := 1) 0 r l) = ix3 k ⟨g.val + 8 * r.val, by omega⟩ l := by
  funext a; apply Fin.ext; fin_cases a <;> simp [comb, LoadRect.idx]

variable (arg3 : Memref sig .tc .vmem S64x1024 .bf16) (harg3 : arg3.IsWhole)
  (arg4 : Memref sig .tc .vmem S64x128 .i32) (harg4 : arg4.IsWhole)
  (arg8 arg9 : Memref sig .tc .vmem S8x64x128 .f32)
  (x2 : Vec Ideal S64x1024 .bf16) (x3 : Vec Ideal S64x128 .i32)

/-- Every image of a rectangle's index lies in it. -/
theorem emb_mem {S : Shape} (r : Rect S) (x : r.shape.Idx) : r.emb x ∈ r.set := by
  rw [← Rect.map_emb_univ]; exact Finset.mem_map_of_mem _ (Finset.mem_univ x)

theorem mem_plane (k : Fin 8) (g : Fin 64) (l : Fin 128) : ix3 k g l ∈ (plane k).set := by
  rw [← plane_emb]; exact emb_mem _ _

theorem allWords_read (g : Fin 64) (l : Fin 128) :
    View.readAt (Elt Ideal) arg4.view allWords.toLoadRect (harg4.unread x3) (ix2 g l) = x3 (ix2 g l) := by
  refine (congrFun (harg4.read_unread x3) (allWords.emb (ix2 g l))).trans ?_
  congr 1; funext a; apply Fin.ext
  match a with
  | ⟨0, _⟩ => show 0 + 1 * g.val = g.val; omega
  | ⟨1, _⟩ => show 0 + 1 * l.val = l.val; omega

theorem scaleCols_read (k : Fin 8) (g : Fin 64) (l : Fin 128) :
    View.readAt (Elt Ideal) arg3.view (scaleCols k).toLoadRect (harg3.unread x2) (ix2 g l)
      = x2 (ix2 g ⟨128 * k.val + l.val, by omega⟩) := by
  refine (congrFun (harg3.read_unread x2) ((scaleCols k).emb (ix2 g l))).trans ?_
  congr 1; funext a; apply Fin.ext
  match a with
  | ⟨0, _⟩ => show 0 + 1 * g.val = g.val; omega
  | ⟨1, _⟩ => show 128 * k.val + 1 * l.val = 128 * k.val + l.val; omega

/-- A comb of a plane, read once the plane is stored. -/
theorem zeroComb (k g : Fin 8) (r : Fin 8) (l : Fin 128) :
    arg9.view.readCov ((downFrom k.val k.isLt).map (zeroPlane arg4 harg4 x3)) (comb k g) (ix3 (n0 := 1) 0 r l)
      = num (x3 (ix2 ⟨g.val + 8 * r.val, by omega⟩ ⟨16 * k.val + l.val / 8, by omega⟩)) (l.val % 8) := by
  rw [View.readCov_eq_canon']
  show View.canon _ ((comb k g).idx (ix3 (n0 := 1) 0 r l)) = _
  rw [comb_idx, View.canon_apply_of_pieces (zeros x3) _ ?_ _ ⟨zeroPlane arg4 harg4 x3 k, List.mem_map_of_mem (mem_downFrom k), mem_plane _ _ _⟩]
  · rfl
  · intro p hp x
    obtain ⟨k', -, rfl⟩ := List.mem_map.mp hp
    obtain ⟨g', l', rfl⟩ : ∃ (g' : Fin 64) (l' : Fin 128), x = ix3 (n0 := 1) 0 g' l' :=
      ⟨x 1, x 2, by rw [eq_ix3 x]; congr 1; exact Subsingleton.elim (α := Fin 1) _ _⟩
    refine ((zeroVals_apply k' _ g' l').trans ?_).trans (congrArg (zeros x3) (plane_emb k' g' l')).symm
    rw [allWords_read]; rfl

theorem scaleComb (k g : Fin 8) (r : Fin 8) (l : Fin 128) :
    arg8.view.readCov ((downFrom k.val k.isLt).map (scalePlane arg3 harg3 x2)) (comb k g) (ix3 (n0 := 1) 0 r l)
      = x2 (ix2 ⟨g.val + 8 * r.val, by omega⟩ ⟨128 * k.val + l.val, by omega⟩) := by
  rw [View.readCov_eq_canon']
  show View.canon _ ((comb k g).idx (ix3 (n0 := 1) 0 r l)) = _
  rw [comb_idx, View.canon_apply_of_pieces (scales x2) _ ?_ _ ⟨scalePlane arg3 harg3 x2 k, List.mem_map_of_mem (mem_downFrom k), mem_plane _ _ _⟩]
  · rfl
  · intro p hp x
    obtain ⟨k', -, rfl⟩ := List.mem_map.mp hp
    obtain ⟨g', l', rfl⟩ : ∃ (g' : Fin 64) (l' : Fin 128), x = ix3 (n0 := 1) 0 g' l' :=
      ⟨x 1, x 2, by rw [eq_ix3 x]; congr 1; exact Subsingleton.elim (α := Fin 1) _ _⟩
    refine ((scaleVals_apply _ g' l').trans ?_).trans (congrArg (scales x2) (plane_emb k' g' l')).symm
    rw [scaleCols_read]; rfl

/-! ## The two patterns -/

/-- The quantization group of pattern row r: sixteen rows serve the groups g, g+8, …, g+56 twice. -/
def group (r : ℕ) : ℕ := r / 16 + 8 * (r % 8)

theorem group_lt {r : ℕ} (h : r < 128) : group r < 64 := by unfold group; omega

/-- The zero-point pattern at row r, column n. -/
def zeroPat (q : Vec Ideal S64x128 .i32) : S128x1024.Idx → EReal := fun i =>
  num (q (ix2 ⟨group (i 0).val, group_lt (i 0).isLt⟩
    ⟨(i 1).val / 8, by have h : (i 1).val < 1024 := (i 1).isLt; omega⟩)) ((i 1).val % 8)

/-- The scale pattern at row r, column n. -/
def scalePat (s : Vec Ideal S64x1024 .bf16) : S128x1024.Idx → EReal := fun i =>
  s (ix2 ⟨group (i 0).val, group_lt (i 0).isLt⟩ (i 1))

theorem patch_emb (k g : Fin 8) (u : Fin 16) (l : Fin 128) :
    (patch k g).emb (ix2 u l) = ix2 ⟨16 * g.val + u.val, by omega⟩ ⟨128 * k.val + l.val, by omega⟩ := by
  funext a; apply Fin.ext
  match a with
  | ⟨0, _⟩ => show 16 * g.val + 1 * u.val = 16 * g.val + u.val; omega
  | ⟨1, _⟩ => show 128 * k.val + 1 * l.val = 128 * k.val + l.val; omega

/-- The patches cover the pattern array. -/
theorem mem_patch (i : S128x1024.Idx) : ∃ k g : Fin 8, i ∈ (patch k g).set := by
  have h0 : (i 0).val < 128 := (i 0).isLt
  have h1 : (i 1).val < 1024 := (i 1).isLt
  refine ⟨⟨(i 1).val / 128, by omega⟩, ⟨(i 0).val / 16, by omega⟩, ?_⟩
  have e : i = (patch ⟨(i 1).val / 128, by omega⟩ ⟨(i 0).val / 16, by omega⟩).emb
      (ix2 (n0 := 16) (n1 := 128) ⟨(i 0).val % 16, by omega⟩ ⟨(i 1).val % 128, by omega⟩) := by
    rw [patch_emb]; funext a; apply Fin.ext
    match a with
    | ⟨0, _⟩ => show (i 0).val = 16 * ((i 0).val / 16) + (i 0).val % 16; omega
    | ⟨1, _⟩ => show (i 1).val = 128 * ((i 1).val / 128) + (i 1).val % 128; omega
  have h := emb_mem (patch ⟨(i 1).val / 128, by omega⟩ ⟨(i 0).val / 16, by omega⟩)
    (ix2 (n0 := 16) (n1 := 128) ⟨(i 0).val % 16, by omega⟩ ⟨(i 1).val % 128, by omega⟩)
  rwa [← e] at h

theorem mem_all (k : Fin 8) : k ∈ downFrom 7 (by decide) := by
  revert k; decide

variable (c : Dev nD)

/-- The zero-point pattern, read anywhere after the last patch. -/
theorem zeroPat_read (B : LoadRect S128x1024) (arg7 : Memref sig .tc .vmem S128x1024 .bf16) (j : B.shape.Idx) :
    arg7.view.readCov (kernelRun0_A.sl.HS1_64 (F := Ideal) c arg4 harg4 arg9 x3) B j = zeroPat x3 (B.idx j) := by
  rw [View.readCov_eq_canon', zeroPatches]
  obtain ⟨k, g, hkg⟩ := mem_patch (B.idx j)
  refine View.canon_apply_of_pieces (Val := Elt Ideal) (S := S128x1024) (e := .bf16) (zeroPat x3) _ ?_ _ ?_
  swap
  · refine ⟨zeroPatch arg4 harg4 arg9 x3 k g, List.mem_flatMap.mpr ⟨k, mem_all k, ?_⟩, hkg⟩
    exact List.mem_map.mpr ⟨g, mem_all g, rfl⟩
  intro p hp x
  obtain ⟨k', -, hp⟩ := List.mem_flatMap.mp hp
  obtain ⟨g', -, rfl⟩ := List.mem_map.mp hp
  obtain ⟨u, l, rfl⟩ : ∃ (u : Fin 16) (l : Fin 128), x = ix2 u l := ⟨x 0, x 1, eq_ix2 x⟩
  refine ((twice_apply _ u l).trans ?_).trans (congrArg (zeroPat x3) (patch_emb k' g' u l)).symm
  rw [zeroComb]
  have e : ∀ a b : ℕ, ∀ ha hb hx hy, a = group (16 * g'.val + u.val) → b = (128 * k'.val + l.val) / 8 →
    x3 (ix2 ⟨a, ha⟩ ⟨b, hb⟩) = x3 (ix2 ⟨group (16 * g'.val + u.val), hx⟩ ⟨(128 * k'.val + l.val) / 8, hy⟩) := by
    intros; subst_vars; rfl
  unfold zeroPat
  rw [e _ _ _ _ (group_lt (by omega)) (by omega) (by unfold group; show g'.val + 8 * (u.val % 8) = _; omega) (by omega)]
  congr 1
  show l.val % 8 = (128 * k'.val + l.val) % 8
  omega

/-- The scale pattern, read anywhere after the last patch. -/
theorem scalePat_read (B : LoadRect S128x1024) (arg6 : Memref sig .tc .vmem S128x1024 .bf16) (j : B.shape.Idx) :
    arg6.view.readCov (kernelRun0_A.sl.HS0_64 (F := Ideal) c arg3 harg3 arg8 x2) B j = scalePat x2 (B.idx j) := by
  rw [View.readCov_eq_canon', scalePatches]
  obtain ⟨k, g, hkg⟩ := mem_patch (B.idx j)
  refine View.canon_apply_of_pieces (Val := Elt Ideal) (S := S128x1024) (e := .bf16) (scalePat x2) _ ?_ _ ?_
  swap
  · refine ⟨scalePatch arg3 harg3 arg8 x2 k g, List.mem_flatMap.mpr ⟨k, mem_all k, ?_⟩, hkg⟩
    exact List.mem_map.mpr ⟨g, mem_all g, rfl⟩
  intro p hp x
  obtain ⟨k', -, hp⟩ := List.mem_flatMap.mp hp
  obtain ⟨g', -, rfl⟩ := List.mem_map.mp hp
  obtain ⟨u, l, rfl⟩ : ∃ (u : Fin 16) (l : Fin 128), x = ix2 u l := ⟨x 0, x 1, eq_ix2 x⟩
  refine ((twice_apply _ u l).trans ?_).trans (congrArg (scalePat x2) (patch_emb k' g' u l)).symm
  rw [scaleComb]
  have e : ∀ a : ℕ, ∀ ha b hx, a = group (16 * g'.val + u.val) →
    x2 (ix2 ⟨a, ha⟩ b) = x2 (ix2 ⟨group (16 * g'.val + u.val), hx⟩ b) := by
    intros; subst_vars; rfl
  exact e _ _ _ (group_lt (by omega)) (by unfold group; show g'.val + 8 * (u.val % 8) = _; omega)

end Cert.KernelIdeal.Patterns

end
-- ==== Proof.Output.lean ====
/- The output block of one grid point, element by element: a sum of 32 · 256 terms, activation × (code − zero) × scale. -/
module

public import proofs.«01_k».proof.Proof.Block
public import proofs.«01_k».proof.Proof.Contents

@[expose] public section

set_option maxRecDepth 16384

noncomputable section

namespace Cert.KernelIdeal.Output

open Cert.KernelIdeal Cert.KernelIdeal.Gen Cert.KernelIdeal.Block Cert.KernelIdeal.Patterns Idealize.ShloMosaic Idealize.ShloMosaic.TcCoe Idealize.SL.Sem

/-- Four times a number, as words. -/
theorem four_mul (k : ℕ) : IntOp.muli 4#32 (BitVec.ofNat 32 k) = BitVec.ofNat 32 (4 * k) := by
  show 4#32 * BitVec.ofNat 32 k = _
  rw [BitVec.ofNat_mul]

/-- One product at a place. -/
theorem part_apply (x : Vec Ideal S32x256 .bf16) (w : Vec Ideal S32x256 .i32) (z s : Vec Ideal S16x256 .bf16)
    (b : Fin 32) (n : Fin 256) :
    part x w z s (ix2 b n) = ∑ r : Fin 256, x (ix2 b r) *
      ((num (w (ix2 ⟨r.val / 8, by omega⟩ n)) (r.val % 8) - z (ix2 ⟨r.val % 16, by omega⟩ n))
        * s (ix2 ⟨r.val % 16, by omega⟩ n)) := by
  pointwise [part, tile, codes, spread]
  simp only [four_mul]
  rfl

/-- The running sum at a place. -/
theorem acc_apply (P : Fin 32 → FVec Ideal S32x256 .f32) (i : S32x256.Idx) (k : ℕ) (h : k < 32) :
    acc P k h i = ∑ t : Fin (k + 1), P ⟨t.val, by omega⟩ i := by
  induction k with
  | zero => simp [acc]
  | succ k ih =>
    rw [Fin.sum_univ_castSucc]
    show acc P k _ i + P ⟨k + 1, h⟩ i = _
    rw [ih]; rfl

/-- Term r of product t of the output block at row b, column n, from the point's four input blocks. -/
def term (x : Vec Ideal S32x8192 .bf16) (w : Vec Ideal S1024x1024 .i32) (s : Vec Ideal S64x1024 .bf16)
    (q : Vec Ideal S64x128 .i32) (b : Fin 32) (n : Fin 1024) (t : Fin 32) (r : Fin 256) : EReal :=
  x (ix2 b ⟨256 * t.val + r.val, by omega⟩) *
    ((num (w (ix2 ⟨32 * t.val + r.val / 8, by omega⟩ n)) (r.val % 8)
        - zeroPat q (ix2 ⟨16 * (t.val / 4) + r.val % 16, by omega⟩ n))
      * scalePat s (ix2 ⟨16 * (t.val / 4) + r.val % 16, by omega⟩ n))

/-- The output block, as one function of the point's four input blocks. -/
def block (x : Vec Ideal S32x8192 .bf16) (w : Vec Ideal S1024x1024 .i32) (s : Vec Ideal S64x1024 .bf16)
    (q : Vec Ideal S64x128 .i32) : S32x1024.Idx → EReal := fun i =>
  ∑ t : Fin 32, ∑ r : Fin 256, term x w s q (i 0) (i 1) t r

/-! ## Where the rectangles' elements lie -/

theorem rectX_emb (t : Fin 32) (b : Fin 32) (r : Fin 256) :
    (rectX t).emb (ix2 b r) = ix2 b ⟨256 * t.val + r.val, by omega⟩ := by
  funext a; apply Fin.ext
  match a with
  | ⟨0, _⟩ => show 0 + 1 * b.val = b.val; omega
  | ⟨1, _⟩ => show 256 * t.val + 1 * r.val = 256 * t.val + r.val; omega

theorem rectW_emb (n : Fin 4) (t : Fin 32) (k : Fin 32) (l : Fin 256) :
    (rectW n t).emb (ix2 k l) = ix2 ⟨32 * t.val + k.val, by omega⟩ ⟨256 * n.val + l.val, by omega⟩ := by
  funext a; apply Fin.ext
  match a with
  | ⟨0, _⟩ => show 32 * t.val + 1 * k.val = 32 * t.val + k.val; omega
  | ⟨1, _⟩ => show 256 * n.val + 1 * l.val = 256 * n.val + l.val; omega

theorem rectZ_idx (n : Fin 4) (t : Fin 32) (u : Fin 16) (l : Fin 256) :
    (rectZ n t).toLoadRect.idx (ix2 u l)
      = ix2 ⟨16 * (t.val / 4) + u.val, by omega⟩ ⟨256 * n.val + l.val, by omega⟩ := by
  funext a; apply Fin.ext
  match a with
  | ⟨0, _⟩ => show 16 * (t.val / 4) + 1 * u.val = 16 * (t.val / 4) + u.val; omega
  | ⟨1, _⟩ => show 256 * n.val + 1 * l.val = 256 * n.val + l.val; omega

theorem rectY_emb (n : Fin 4) (b : Fin 32) (l : Fin 256) :
    (rectY n).emb (ix2 b l) = ix2 b ⟨256 * n.val + l.val, by omega⟩ := by
  funext a; apply Fin.ext
  match a with
  | ⟨0, _⟩ => show 0 + 1 * b.val = b.val; omega
  | ⟨1, _⟩ => show 256 * n.val + 1 * l.val = 256 * n.val + l.val; omega

/-- Every place of the output block lies in one of the four column tiles. -/
theorem mem_rectY (i : S32x1024.Idx) : ∃ n : Fin 4, i ∈ (rectY n).set := by
  obtain ⟨b, l, rfl⟩ : ∃ (b : Fin 32) (l : Fin 1024), i = ix2 b l := ⟨i 0, i 1, eq_ix2 i⟩
  refine ⟨⟨l.val / 256, by omega⟩, ?_⟩
  have e : ix2 b l = (rectY ⟨l.val / 256, by omega⟩).emb (ix2 (n0 := 32) (n1 := 256) b ⟨l.val % 256, by omega⟩) := by
    rw [rectY_emb]; congr 1; apply Fin.ext
    show l.val = 256 * (l.val / 256) + l.val % 256; omega
  have h := emb_mem (rectY ⟨l.val / 256, by omega⟩) (ix2 (n0 := 32) (n1 := 256) b ⟨l.val % 256, by omega⟩)
  rwa [← e] at h

/-! ## The block -/

section

variable (c : Dev nD) (arg1 : Memref sig .tc .vmem S32x8192 .bf16) (harg1 : arg1.IsWhole)
  (arg2 : Memref sig .tc .vmem S1024x1024 .i32) (harg2 : arg2.IsWhole)
  (arg3 : Memref sig .tc .vmem S64x1024 .bf16) (harg3 : arg3.IsWhole)
  (arg4 : Memref sig .tc .vmem S64x128 .i32) (harg4 : arg4.IsWhole)
  (arg6 arg7 : Memref sig .tc .vmem S128x1024 .bf16) (arg8 arg9 : Memref sig .tc .vmem S8x64x128 .f32)
  (x0 : Vec Ideal S32x8192 .bf16) (x1 : Vec Ideal S1024x1024 .i32) (x2 : Vec Ideal S64x1024 .bf16)
  (x3 : Vec Ideal S64x128 .i32)

theorem product_apply (n : Fin 4) (t : Fin 32) (b : Fin 32) (l : Fin 256) :
    product c arg1 harg1 arg2 harg2 arg3 harg3 arg4 harg4 arg6 arg7 arg8 arg9 x0 x1 x2 x3 n t (ix2 b l)
      = ∑ r : Fin 256, term x0 x1 x2 x3 b ⟨256 * n.val + l.val, by omega⟩ t r := by
  refine (part_apply _ _ _ _ b l).trans ?_
  refine Finset.sum_congr rfl fun r _ => ?_
  have e0 : View.readAt (Elt Ideal) arg1.view (rectX t).toLoadRect (harg1.unread x0) (ix2 b r)
      = x0 (ix2 b ⟨256 * t.val + r.val, by omega⟩) :=
    (congrFun (harg1.read_unread x0) ((rectX t).emb (ix2 b r))).trans (congrArg x0 (rectX_emb t b r))
  have e1 : View.readAt (Elt Ideal) arg2.view (rectW n t).toLoadRect (harg2.unread x1) (ix2 ⟨r.val / 8, by omega⟩ l)
      = x1 (ix2 ⟨32 * t.val + r.val / 8, by omega⟩ ⟨256 * n.val + l.val, by omega⟩) :=
    (congrFun (harg2.read_unread x1) ((rectW n t).emb (ix2 (n0 := 32) (n1 := 256) ⟨r.val / 8, by omega⟩ l))).trans
      (congrArg x1 (rectW_emb n t ⟨r.val / 8, by omega⟩ l))
  have e2 := (zeroPat_read arg4 harg4 arg9 x3 c (rectZ n t).toLoadRect arg7
    (ix2 (n0 := 16) (n1 := 256) ⟨r.val % 16, by omega⟩ l)).trans (congrArg (zeroPat x3) (rectZ_idx n t ⟨r.val % 16, by omega⟩ l))
  have e3 := (scalePat_read arg3 harg3 arg8 x2 c (rectZ n t).toLoadRect arg6
    (ix2 (n0 := 16) (n1 := 256) ⟨r.val % 16, by omega⟩ l)).trans (congrArg (scalePat x2) (rectZ_idx n t ⟨r.val % 16, by omega⟩ l))
  exact congrArg₂ (· * ·) e0 (congrArg₂ (· * ·) (congrArg₂ (fun u v : EReal => u - v) (congrArg (num · (r.val % 8)) e1) e2) e3)

/-- What one column tile's store writes is the block there. -/
theorem store_apply (n : Fin 4) (y : (rectY n).shape.Idx) :
    (store c arg1 harg1 arg2 harg2 arg3 harg3 arg4 harg4 arg6 arg7 arg8 arg9 x0 x1 x2 x3 n).2 y
      = block x0 x1 x2 x3 ((rectY n).emb y) := by
  obtain ⟨b, l, rfl⟩ : ∃ (b : Fin 32) (l : Fin 256), y = ix2 b l := ⟨y 0, y 1, eq_ix2 y⟩
  refine Eq.trans ?_ (congrArg (block x0 x1 x2 x3) (rectY_emb n b l)).symm
  refine (acc_apply (product c arg1 harg1 arg2 harg2 arg3 harg3 arg4 harg4 arg6 arg7 arg8 arg9 x0 x1 x2 x3 n)
    (ix2 b l) 31 (by decide)).trans ?_
  exact Finset.sum_congr rfl fun t _ => product_apply c arg1 harg1 arg2 harg2 arg3 harg3 arg4 harg4 arg6 arg7 arg8 arg9
    x0 x1 x2 x3 n t b l

theorem mem_tiles (n : Fin 4) : n ∈ ([3, 2, 1, 0] : List (Fin 4)) := by
  revert n; decide

/-- The four stores together leave the block. -/
theorem stores_canon (i : S32x1024.Idx) :
    View.canon ([3, 2, 1, 0].map (store c arg1 harg1 arg2 harg2 arg3 harg3 arg4 harg4 arg6 arg7 arg8 arg9 x0 x1 x2 x3)) i
      = block x0 x1 x2 x3 i := by
  obtain ⟨n, hn⟩ := mem_rectY i
  refine View.canon_apply_of_pieces (Val := Elt Ideal) (S := S32x1024) (e := .bf16) (block x0 x1 x2 x3) _ ?_ _ ?_
  · intro p hp y
    obtain ⟨n', -, rfl⟩ := List.mem_map.mp hp
    exact store_apply c arg1 harg1 arg2 harg2 arg3 harg3 arg4 harg4 arg6 arg7 arg8 arg9 x0 x1 x2 x3 n' y
  · exact ⟨_, List.mem_map_of_mem (mem_tiles n), hn⟩

end

/-- A grid point leaves the block of its four input blocks. -/
theorem outsAt_eq (m : (ℓ : Loc nD τ sig) → Buf (Elt Ideal) ℓ) (c : Dev nD) (t : Fin cfg0.N) :
    outsAt0 m c t = block (iblk m c 0 t) (iblk m c 1 t) (iblk m c 2 t) (iblk m c 3 t) := by
  unfold outsAt0 out0_A_4
  rw [View.read_writes_eq_canon _ _ _ (cover0_A_4 c _ _ _ _ _ _ _ _ _ _ _ _ _ _ _ _ _ _ _ _ _ _ _), stores]
  exact funext fun i => stores_canon c _ _ _ _ _ _ _ _ _ _ _ _ _ _ _ _ i

end Cert.KernelIdeal.Output

end
-- ==== Proof.Array.lean ====
/- The kernel's result array, element by element, as a function of the four arguments. -/
module

public import proofs.«01_k».proof.Proof.Output
public import Idealize.ShloMosaic.Lib.Pipeline.ValueKit

@[expose] public section

set_option maxRecDepth 16384

noncomputable section

namespace Cert.KernelIdeal.Array

open Cert.KernelIdeal Cert.KernelIdeal.Gen Cert.KernelIdeal.Patterns Idealize.ShloMosaic Idealize.ShloMosaic.TcCoe Idealize.SL.Sem

/-- The activations as the host rearranges them. -/
def acts (x0 : Vec Ideal S32x1x8192 .bf16) : Vec Ideal S32x8192 .bf16 :=
  shapeCast S32x8192 (transpose S32x1024x8 [0, 2, 1] (shapeCast S32x8x1024 x0 shapeCasts_S32x1x8192_S32x8x1024)
    transposes_S32x8x1024_S32x1024x8_0_2_1) shapeCasts_S32x1024x8_S32x8192

/-- Column 8k + j of the rearranged activations is column 1024j + k of the given ones. -/
theorem acts_apply (x0 : Vec Ideal S32x1x8192 .bf16) (b : Fin 32) (i : Fin 8192) :
    acts x0 (ix2 b i) = x0 (ix3 b 0 ⟨i.val % 8 * 1024 + i.val / 8, by omega⟩) := by
  pointwise [acts]

/-! ## The input blocks of a grid point -/

variable (m : (ℓ : Loc nD τ sig) → Buf (Elt Ideal) ℓ) (c : Dev nD)

/-- The four arguments on a device. -/
abbrev arg0 : Vec Ideal S32x1x8192 .bf16 := m ((c.tc : Thread nD τ).loc main_arg0)
abbrev arg1 : Vec Ideal S1024x22528 .i32 := m ((c.tc : Thread nD τ).loc main_arg1)
abbrev arg2 : Vec Ideal S64x22528 .bf16 := m ((c.tc : Thread nD τ).loc main_arg2)
abbrev arg3 : Vec Ideal S64x2816 .i32 := m ((c.tc : Thread nD τ).loc main_arg3)

theorem V_acts : V m c main_v2 = acts (arg0 m c) := by
  unfold_abbrev_sides
  after_results
  rfl

theorem index0 : ∀ t : Fin cfg0.N, win0_0.index t = ![0, 0] := by decide +kernel
theorem index1 : ∀ t : Fin cfg0.N, win0_1.index t = ![0, t.val] := by decide +kernel
theorem index2 : ∀ t : Fin cfg0.N, win0_2.index t = ![0, t.val] := by decide +kernel
theorem index3 : ∀ t : Fin cfg0.N, win0_3.index t = ![0, t.val] := by decide +kernel
theorem index4 : ∀ t : Fin cfg0.N, win0_4.index t = ![0, t.val] := by decide +kernel

theorem point_lt (u : Fin cfg0.N) : u.val < 22 := u.isLt

theorem iblk0_apply (u : Fin cfg0.N) (b : Fin 32) (i : Fin 8192) :
    iblk m c 0 u (ix2 b i) = acts (arg0 m c) (ix2 b i) := by
  refine Eq.trans ?_ (congrFun (V_acts m c) (ix2 b i))
  refine congrArg (V m c main_v2) (funext fun a => Fin.ext ?_)
  blk_simp [index0]
  match a with
  | ⟨0, _⟩ => show 0 * 32 + b.val = b.val; omega
  | ⟨1, _⟩ => show 0 * 8192 + i.val = i.val; omega

theorem iblk1_apply (u : Fin cfg0.N) (k : Fin 1024) (n : Fin 1024) :
    iblk m c 1 u (ix2 k n) = arg1 m c (ix2 k ⟨1024 * u.val + n.val, by have := point_lt u; omega⟩) := by
  refine Eq.trans ?_ (congrFun (V_main_arg1 m c) (ix2 (n0 := 1024) (n1 := 22528) k ⟨1024 * u.val + n.val, by have := point_lt u; omega⟩))
  refine congrArg (V m c main_arg1) (funext fun a => Fin.ext ?_)
  blk_simp [index1]
  match a with
  | ⟨0, _⟩ => show 0 * 1024 + k.val = k.val; omega
  | ⟨1, _⟩ => show u.val * 1024 + n.val = 1024 * u.val + n.val; omega

theorem iblk2_apply (u : Fin cfg0.N) (g : Fin 64) (n : Fin 1024) :
    iblk m c 2 u (ix2 g n) = arg2 m c (ix2 g ⟨1024 * u.val + n.val, by have := point_lt u; omega⟩) := by
  refine Eq.trans ?_ (congrFun (V_main_arg2 m c) (ix2 (n0 := 64) (n1 := 22528) g ⟨1024 * u.val + n.val, by have := point_lt u; omega⟩))
  refine congrArg (V m c main_arg2) (funext fun a => Fin.ext ?_)
  blk_simp [index2]
  match a with
  | ⟨0, _⟩ => show 0 * 64 + g.val = g.val; omega
  | ⟨1, _⟩ => show u.val * 1024 + n.val = 1024 * u.val + n.val; omega

theorem iblk3_apply (u : Fin cfg0.N) (g : Fin 64) (l : Fin 128) :
    iblk m c 3 u (ix2 g l) = arg3 m c (ix2 g ⟨128 * u.val + l.val, by have := point_lt u; omega⟩) := by
  refine Eq.trans ?_ (congrFun (V_main_arg3 m c) (ix2 (n0 := 64) (n1 := 2816) g ⟨128 * u.val + l.val, by have := point_lt u; omega⟩))
  refine congrArg (V m c main_arg3) (funext fun a => Fin.ext ?_)
  blk_simp [index3]
  match a with
  | ⟨0, _⟩ => show 0 * 64 + g.val = g.val; omega
  | ⟨1, _⟩ => show u.val * 128 + l.val = 128 * u.val + l.val; omega

/-! ## The array -/

/-- The product of activation 1024j + k with the weight at word row k, field j, for row b and column n. -/
def term (x0 : Vec Ideal S32x1x8192 .bf16) (x1 : Vec Ideal S1024x22528 .i32) (x2 : Vec Ideal S64x22528 .bf16)
    (x3 : Vec Ideal S64x2816 .i32) (b : Fin 32) (n : Fin 22528) (j : Fin 8) (k : Fin 1024) : EReal :=
  x0 (ix3 b 0 ⟨1024 * j.val + k.val, by omega⟩) *
    ((num (x1 (ix2 k n)) j.val - num (x3 (ix2 ⟨8 * j.val + k.val / 128, by omega⟩ ⟨n.val / 8, by omega⟩)) (n.val % 8))
      * x2 (ix2 ⟨8 * j.val + k.val / 128, by omega⟩ n))

/-- The result: 32 products of 256 terms each, row r of tile t being field r mod 8 of word row 32t + r/8. -/
def result (x0 : Vec Ideal S32x1x8192 .bf16) (x1 : Vec Ideal S1024x22528 .i32) (x2 : Vec Ideal S64x22528 .bf16)
    (x3 : Vec Ideal S64x2816 .i32) : S32x22528.Idx → EReal := fun i =>
  ∑ t : Fin 32, ∑ r : Fin 256, term x0 x1 x2 x3 (i 0) (i 1) ⟨r.val % 8, by omega⟩ ⟨32 * t.val + r.val / 8, by omega⟩

/-- A term of a grid point's block, in the arguments. -/
theorem term_eq (u : Fin cfg0.N) (b : Fin 32) (n : Fin 1024) (t : Fin 32) (r : Fin 256) :
    Output.term (iblk m c 0 u) (iblk m c 1 u) (iblk m c 2 u) (iblk m c 3 u) b n t r
      = term (arg0 m c) (arg1 m c) (arg2 m c) (arg3 m c) b ⟨1024 * u.val + n.val, by have := point_lt u; omega⟩
          ⟨r.val % 8, by omega⟩ ⟨32 * t.val + r.val / 8, by omega⟩ := by
  have hu := point_lt u
  have e0 : iblk m c 0 u (ix2 b ⟨256 * t.val + r.val, by omega⟩)
      = arg0 m c (ix3 b 0 ⟨1024 * (r.val % 8) + (32 * t.val + r.val / 8), by omega⟩) := by
    refine (iblk0_apply m c u b _).trans ((acts_apply _ b _).trans (congrArg (fun k => arg0 m c (ix3 b 0 k)) (Fin.ext ?_)))
    show (256 * t.val + r.val) % 8 * 1024 + (256 * t.val + r.val) / 8 = 1024 * (r.val % 8) + (32 * t.val + r.val / 8)
    omega
  have eg : group (16 * (t.val / 4) + r.val % 16) = 8 * (r.val % 8) + (32 * t.val + r.val / 8) / 128 := by
    unfold group; omega
  have hg : 8 * (r.val % 8) + (32 * t.val + r.val / 8) / 128 < 64 := by omega
  have e1 := iblk1_apply m c u ⟨32 * t.val + r.val / 8, by omega⟩ n
  have e2 : scalePat (iblk m c 2 u) (ix2 ⟨16 * (t.val / 4) + r.val % 16, by omega⟩ n)
      = arg2 m c (ix2 ⟨8 * (r.val % 8) + (32 * t.val + r.val / 8) / 128, hg⟩ ⟨1024 * u.val + n.val, by omega⟩) :=
    (iblk2_apply m c u _ n).trans (congrArg (fun g => arg2 m c (ix2 g _)) (Fin.ext eg))
  have e3 : zeroPat (iblk m c 3 u) (ix2 ⟨16 * (t.val / 4) + r.val % 16, by omega⟩ n)
      = num (arg3 m c (ix2 ⟨8 * (r.val % 8) + (32 * t.val + r.val / 8) / 128, hg⟩ ⟨(1024 * u.val + n.val) / 8, by omega⟩))
          ((1024 * u.val + n.val) % 8) := by
    refine congrArg₂ num ((iblk3_apply m c u _ ⟨n.val / 8, by omega⟩).trans
      (congrArg₂ (fun g l => arg3 m c (ix2 g l)) (Fin.ext eg) (Fin.ext ?_))) ?_
    · show 128 * u.val + n.val / 8 = (1024 * u.val + n.val) / 8; omega
    · show n.val % 8 = (1024 * u.val + n.val) % 8; omega
  exact congrArg₂ (· * ·) e0 (congrArg₂ (· * ·) (congrArg₂ (fun v w : EReal => v - w) (congrArg (num · (r.val % 8)) e1) e3) e2)

/-- A grid point's block is its 1024 columns of the result. -/
theorem block_eq (u : Fin cfg0.N) (b : Fin 32) (n : Fin 1024) :
    Output.block (iblk m c 0 u) (iblk m c 1 u) (iblk m c 2 u) (iblk m c 3 u) (ix2 b n)
      = result (arg0 m c) (arg1 m c) (arg2 m c) (arg3 m c)
          (ix2 (n0 := 32) (n1 := 22528) b ⟨1024 * u.val + n.val, by have := point_lt u; omega⟩) :=
  Finset.sum_congr rfl fun t _ => Finset.sum_congr rfl fun r _ => term_eq m c u b n t r

/-- The result array after the run. -/
theorem array_eq : (dats m 0 c).arrAt 4 cfg0.N = result (arg0 m c) (arg1 m c) (arg2 m c) (arg3 m c) := by
  refine (dats m 0 c).arrAt_eq_of_covers 4 _ (by decide +kernel) fun t hf y => ?_
  blk_simp
  rw [after0_4, Output.outsAt_eq]
  obtain ⟨b, n, rfl⟩ : ∃ (b : Fin 32) (n : Fin 1024), y = ix2 b n := ⟨y 0, y 1, eq_ix2 y⟩
  have e : (win0_4.blk t).view.emb (ix2 (n0 := 32) (n1 := 1024) b n)
      = ix2 (n0 := 32) (n1 := 22528) b ⟨1024 * t.val + n.val, by have := point_lt t; omega⟩ := by
    funext a; apply Fin.ext
    blk_simp [index4]
    match a with
    | ⟨0, _⟩ => show 0 * 32 + b.val = b.val; omega
    | ⟨1, _⟩ => show t.val * 1024 + n.val = 1024 * t.val + n.val; omega
  refine Eq.trans ?_ (congrArg (result (arg0 m c) (arg1 m c) (arg2 m c) (arg3 m c)) e).symm
  exact block_eq m c t b n

end Cert.KernelIdeal.Array

end
-- ==== Proof.Reference.lean ====
/- The reference, element by element: the products of the eight 4-bit fields, added up and rounded once. -/
module

public import proofs.«01_k».proof.Proof.Gen.ReferenceIdeal.Read
public import Idealize.ShloMosaic.Lib.Pointwise

@[expose] public section

set_option maxRecDepth 16384

noncomputable section

namespace Cert.ReferenceIdeal.Fields

open Cert.ReferenceIdeal Cert.ReferenceIdeal.Gen Cert.ReferenceIdeal.Read Idealize.ShloMosaic Idealize.ShloMosaic.TcCoe Idealize.SL.Sem

variable {F : FTy → Type} [FloatOps F]

theorem slicesG (j : Fin 8) : S64x22528.Slices ![8 * j.val, 0] S8x22528 := by
  revert j; decide

theorem slicesX (j : Fin 8) : S32x8192.Slices ![0, 1024 * j.val] S32x1024 := by
  revert j; decide

/-- Rows 8j … 8j+7 of a 64-row array, each repeated over the 128 rows of its group. -/
def rows (v : FVec F S64x22528 .bf16) (j : Fin 8) : FVec F S8x128x22528 .bf16 :=
  broadcastInDim S8x128x22528 ![0, 1, 2] bcast_S8x1x22528_S8x128x22528_0_1_2
    (broadcastInDim S8x1x22528 ![0, 2] bcast_S8x22528_S8x1x22528_0_2
      (extractStridedSlice S8x22528 ![8 * j.val, 0] v (slicesG j)))

/-- The j-th 4-bit field of every word, in 8 groups of 128 rows. -/
def codes (w : Vec F S1024x22528 .i32) (j : Fin 8) : FVec F S8x128x22528 .bf16 :=
  shapeCast _ (sitofp .bf16 (andi
    (Host.shrsi w (broadcastInDim S1024x22528 ![] bcast_S_S1024x22528 (constantI S_ 32 (BitVec.ofNat 32 (4 * j.val)))))
    (broadcastInDim S1024x22528 ![] bcast_S_S1024x22528 (constantI S_ 32 15#32)))) shapeCasts_S1024x22528_S8x128x22528

/-- The product of field j. -/
def product (x : FVec F S32x8192 .bf16) (w : Vec F S1024x22528 .i32) (s z : FVec F S64x22528 .bf16) (j : Fin 8) :
    FVec F S32x22528 .f32 :=
  Host.dotGeneral dot_S32x1024_S1024x22528_S32x22528_1_0_0_1_n_n none
    (extractStridedSlice S32x1024 ![0, 1024 * j.val] x (slicesX j))
    (shapeCast _ (mulf (subf (codes w j) (rows z j)) (rows s j)) shapeCasts_S8x128x22528_S1024x22528)

/-- The running sum of the products of fields 0 … k. -/
def acc (P : Fin 8 → FVec F S32x22528 .f32) : (k : ℕ) → k < 8 → FVec F S32x22528 .f32
  | 0, h => P ⟨0, h⟩
  | k + 1, h => addf (acc P k (Nat.lt_of_succ_lt h)) (P ⟨k + 1, h⟩)

/-- The reference's result in this vocabulary. -/
theorem result (x0 : Vec F S32x1x8192 .bf16) (x1 : Vec F S1024x22528 .i32) (x2 : Vec F S64x22528 .bf16)
    (x3 : Vec F S64x2816 .i32) :
    val_main_v156 (F := F) x0 x1 x2 x3
      = truncf .bf16 (acc (product (val_main_v12 x0) x1 x2 (val_main_v11 x3)) 7 (by decide)) bitsLt_bf16_f32 := by
  rfl

/-! ## At a place -/

/-- The k-th 4-bit field of a word, the word shifted with its sign. -/
def field (w : BitVec 32) (k : ℕ) : BitVec 32 :=
  IntOp.andi (IntOp.shrsi .host w (BitVec.ofNat 32 (4 * k))) 15#32

/-- The k-th 4-bit field of a word, as a number. -/
def num (w : BitVec 32) (k : ℕ) : EReal := FloatOps.sitofp (F := Ideal) .bf16 (field w k)

theorem product_apply (x : FVec Ideal S32x8192 .bf16) (w : Vec Ideal S1024x22528 .i32) (s z : FVec Ideal S64x22528 .bf16)
    (j : Fin 8) (b : Fin 32) (n : Fin 22528) :
    product x w s z j (ix2 b n) = ∑ k : Fin 1024, x (ix2 b ⟨1024 * j.val + k.val, by omega⟩) *
      ((num (w (ix2 k n)) j.val - z (ix2 ⟨8 * j.val + k.val / 128, by omega⟩ n))
        * s (ix2 ⟨8 * j.val + k.val / 128, by omega⟩ n)) := by
  pointwise [product, codes, rows]
  rfl

theorem acc_apply (P : Fin 8 → FVec Ideal S32x22528 .f32) (i : S32x22528.Idx) (k : ℕ) (h : k < 8) :
    acc P k h i = ∑ t : Fin (k + 1), P ⟨t.val, by omega⟩ i := by
  induction k with
  | zero => simp [acc]
  | succ k ih =>
    rw [Fin.sum_univ_castSucc]
    show acc P k _ i + P ⟨k + 1, h⟩ i = _
    rw [ih]; rfl

/-- The zero point of row g, column n is field n mod 8 of word n/8 of its row. -/
theorem zeros_apply (x3 : Vec Ideal S64x2816 .i32) (g : Fin 64) (n : Fin 22528) :
    val_main_v11 (F := Ideal) x3 (ix2 g n) = num (x3 (ix2 g ⟨n.val / 8, by omega⟩)) (n.val % 8) := by
  pointwise [val_main_v11, val_main_v10, val_main_v9, val_main_v8, val_main_v7, val_main_v6, val_main_v5, val_main_v4,
    val_main_v3, val_main_v2, val_main_v1, val_main_v0, val_main_c, val_main_c_0]
  unfold num field
  rw [BitVec.ofNat_mul]
  rfl

theorem acts_apply (x0 : Vec Ideal S32x1x8192 .bf16) (b : Fin 32) (k : Fin 8192) :
    val_main_v12 (F := Ideal) x0 (ix2 b k) = x0 (ix3 b 0 k) := by
  pointwise [val_main_v12]

/-- Term k of the product of field j, at row b, column n. -/
def term (x0 : Vec Ideal S32x1x8192 .bf16) (x1 : Vec Ideal S1024x22528 .i32) (x2 : Vec Ideal S64x22528 .bf16)
    (x3 : Vec Ideal S64x2816 .i32) (b : Fin 32) (n : Fin 22528) (j : Fin 8) (k : Fin 1024) : EReal :=
  x0 (ix3 b 0 ⟨1024 * j.val + k.val, by omega⟩) *
    ((num (x1 (ix2 k n)) j.val - num (x3 (ix2 ⟨8 * j.val + k.val / 128, by omega⟩ ⟨n.val / 8, by omega⟩)) (n.val % 8))
      * x2 (ix2 ⟨8 * j.val + k.val / 128, by omega⟩ n))

/-- The reference's result at a place. -/
theorem result_apply (x0 : Vec Ideal S32x1x8192 .bf16) (x1 : Vec Ideal S1024x22528 .i32) (x2 : Vec Ideal S64x22528 .bf16)
    (x3 : Vec Ideal S64x2816 .i32) (b : Fin 32) (n : Fin 22528) :
    val_main_v156 (F := Ideal) x0 x1 x2 x3 (ix2 b n) = ∑ j : Fin 8, ∑ k : Fin 1024, term x0 x1 x2 x3 b n j k := by
  rw [result]
  refine (acc_apply (product (val_main_v12 x0) x1 x2 (val_main_v11 x3)) (ix2 b n) 7 (by decide)).trans ?_
  refine Finset.sum_congr rfl fun j _ => (product_apply _ _ _ _ j b n).trans ?_
  refine Finset.sum_congr rfl fun k _ => ?_
  rw [zeros_apply, acts_apply]
  rfl

end Cert.ReferenceIdeal.Fields

end
-- ==== Proof.Equation.lean ====
/- The equation: the kernel's order of the sum and the reference's are the same sum. -/
module

public import proofs.«01_k».proof.Proof.Array
public import proofs.«01_k».proof.Proof.Reference

@[expose] public section

noncomputable section

namespace Cert.Equation

open Idealize.ShloMosaic

/-- A sign-filling and a zero-filling right shift by at most 28 leave the same four lowest bits. -/
theorem field_eq (w : BitVec 32) (k : ℕ) (h : k < 8) :
    ReferenceIdeal.Fields.field w k = KernelIdeal.Patterns.field w k := by
  have e : (BitVec.ofNat 32 (4 * k)).toNat = 4 * k := by rw [BitVec.toNat_ofNat]; omega
  unfold ReferenceIdeal.Fields.field KernelIdeal.Patterns.field IntOp.shrsi IntOp.shrui
  rw [if_pos (by omega), if_pos (by omega), BitVec.sshiftRight', BitVec.ushiftRight_eq', e]
  show w.sshiftRight (4 * k) &&& 15#32 = w >>> (4 * k) &&& 15#32
  apply BitVec.eq_of_getLsbD_eq
  intro i hi
  rw [BitVec.getLsbD_and, BitVec.getLsbD_and]
  by_cases h4 : i < 4
  · rw [BitVec.getLsbD_sshiftRight, BitVec.getLsbD_ushiftRight, if_pos (by omega)]
    simp [Nat.not_le.mpr hi]
  · have : (15#32).getLsbD i = false := by
      have : ∀ i : Fin 32, 4 ≤ i.val → (15#32).getLsbD i.val = false := by decide +kernel
      exact this ⟨i, hi⟩ (Nat.le_of_not_lt h4)
    rw [this, Bool.and_false, Bool.and_false]

theorem num_eq (w : BitVec 32) (k : ℕ) (h : k < 8) : ReferenceIdeal.Fields.num w k = KernelIdeal.Patterns.num w k := by
  unfold ReferenceIdeal.Fields.num KernelIdeal.Patterns.num
  rw [field_eq w k h]; rfl

/-- The two programs' terms agree. -/
theorem term_eq (x0 : Vec Ideal KernelIdeal.S32x1x8192 .bf16) (x1 : Vec Ideal KernelIdeal.S1024x22528 .i32)
    (x2 : Vec Ideal KernelIdeal.S64x22528 .bf16) (x3 : Vec Ideal KernelIdeal.S64x2816 .i32) (b : Fin 32) (n : Fin 22528)
    (j : Fin 8) (k : Fin 1024) :
    ReferenceIdeal.Fields.term x0 x1 x2 x3 b n j k = KernelIdeal.Array.term x0 x1 x2 x3 b n j k := by
  unfold ReferenceIdeal.Fields.term KernelIdeal.Array.term
  rw [num_eq _ _ j.isLt, num_eq _ _ (Nat.mod_lt _ (by decide))]

/-- Field j of word row k is row 8(k mod 32) + j of tile k/32. -/
def order : Fin 32 × Fin 256 ≃ Fin 8 × Fin 1024 where
  toFun p := (⟨p.2.val % 8, by omega⟩, ⟨32 * p.1.val + p.2.val / 8, by omega⟩)
  invFun p := (⟨p.2.val / 32, by omega⟩, ⟨8 * (p.2.val % 32) + p.1.val, by omega⟩)
  left_inv p := Prod.ext (Fin.ext (by show (32 * p.1.val + p.2.val / 8) / 32 = p.1.val; omega))
    (Fin.ext (by show 8 * ((32 * p.1.val + p.2.val / 8) % 32) + p.2.val % 8 = p.2.val; omega))
  right_inv p := Prod.ext (Fin.ext (by show (8 * (p.2.val % 32) + p.1.val) % 8 = p.1.val; omega))
    (Fin.ext (by show 32 * (p.2.val / 32) + (8 * (p.2.val % 32) + p.1.val) / 8 = p.2.val; omega))

/-- The sum over tiles and rows is the sum over fields and word rows. -/
theorem sum_order (f : Fin 8 → Fin 1024 → EReal) :
    ∑ t : Fin 32, ∑ r : Fin 256, f ⟨r.val % 8, by omega⟩ ⟨32 * t.val + r.val / 8, by omega⟩
      = ∑ j : Fin 8, ∑ k : Fin 1024, f j k := by
  rw [← Fintype.sum_prod_type', ← Fintype.sum_prod_type']
  exact Fintype.sum_equiv order _ _ fun _ => rfl

/-- The two results agree. -/
theorem result_eq (x0 : Vec Ideal KernelIdeal.S32x1x8192 .bf16) (x1 : Vec Ideal KernelIdeal.S1024x22528 .i32)
    (x2 : Vec Ideal KernelIdeal.S64x22528 .bf16) (x3 : Vec Ideal KernelIdeal.S64x2816 .i32) :
    ReferenceIdeal.Read.val_main_v156 (F := Ideal) x0 x1 x2 x3 = KernelIdeal.Array.result x0 x1 x2 x3 := by
  funext i
  obtain ⟨b, n, rfl⟩ : ∃ (b : Fin 32) (n : Fin 22528), i = ix2 b n := ⟨i 0, i 1, eq_ix2 i⟩
  refine (ReferenceIdeal.Fields.result_apply x0 x1 x2 x3 b n).trans ?_
  refine Eq.trans ?_ (sum_order (KernelIdeal.Array.term x0 x1 x2 x3 b n)).symm
  exact Finset.sum_congr rfl fun j _ => Finset.sum_congr rfl fun k _ => term_eq x0 x1 x2 x3 b n j k

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference runs, its arguments unchanged, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result and the reference's are equal. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Array.result (Cert.KernelIdeal.Array.arg0 m c) (Cert.KernelIdeal.Array.arg1 m c)
    (Cert.KernelIdeal.Array.arg2 m c) (Cert.KernelIdeal.Array.arg3 m c), ?_, ?_⟩
  · exact (θ_run Cert.KernelIdeal.defs _ _).mono
      (fun r h c => ⟨(h c).1.trans (Cert.KernelIdeal.Array.array_eq m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3⟩ := hargs c
    rw [Cert.ReferenceIdeal.Read.val_main_v156_eq m' c, h0, h1, h2, h3]
    exact Cert.Equation.result_eq _ _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
